-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S784x64 : Shape := ⟨2, ![784, 64]⟩
abbrev S100000x64 : Shape := ⟨2, ![100000, 64]⟩
abbrev S_ : Shape := ⟨0, ![]⟩

class Facts : Prop where
  bcast_S_S784x64 : S_.BroadcastsInDim S784x64 (![] : Fin 0 → Fin S784x64.rank)
  bcast_S_S100000x64 : S_.BroadcastsInDim S100000x64 (![] : Fin 0 → Fin S100000x64.rank)

variable [Facts]

def fn {F : FTy → Type} [FloatOps F] (main_arg0 : FVec F S784x64 .f32) (main_arg1 : FVec F S100000x64 .f32) : IVec S784x64 1 × IVec S100000x64 1 :=
  let main_v0 : FVec F S784x64 .f32 := Host.absf main_arg0
  let main_cst : FVec F S_ .f32 := constant S_ .f32 0x7F800000#32
  let main_v1 : FVec F S784x64 .f32 := broadcastInDim S784x64 ![] bcast_S_S784x64 main_cst
  let main_v2 : IVec S784x64 1 := cmpf .olt main_v0 main_v1
  let main_v3 : FVec F S100000x64 .f32 := Host.absf main_arg1
  let main_cst_0 : FVec F S_ .f32 := constant S_ .f32 0x7F800000#32
  let main_v4 : FVec F S100000x64 .f32 := broadcastInDim S100000x64 ![] bcast_S_S100000x64 main_cst_0
  let main_v5 : IVec S100000x64 1 := cmpf .olt main_v3 main_v4
  (main_v2, main_v5)
-- ==== Kernel.lean ====
abbrev S784x64 : Shape := ⟨2, ![784, 64]⟩
abbrev S100000x64 : Shape := ⟨2, ![100000, 64]⟩
abbrev S784x1 : Shape := ⟨2, ![784, 1]⟩
abbrev S1x1x1 : Shape := ⟨3, ![1, 1, 1]⟩
abbrev S5000x64 : Shape := ⟨2, ![5000, 64]⟩
abbrev S1x5000 : Shape := ⟨2, ![1, 5000]⟩
abbrev S784 : Shape := ⟨1, ![784]⟩
abbrev S784x5000 : Shape := ⟨2, ![784, 5000]⟩
abbrev S5000 : Shape := ⟨1, ![5000]⟩
abbrev S1x784x1 : Shape := ⟨3, ![1, 784, 1]⟩
abbrev S1 : Shape := ⟨1, ![1]⟩
abbrev S_ : Shape := ⟨0, ![]⟩

abbrev nBuf : Space → Nat
  | .hbm => 8
  | .vmem => 8
  | .smem => 1
  | _ => 0

abbrev bufTy : (tb : Table) → Fin (tcTables nBuf tb) → BufTy
  | .hbm, ⟨0, _⟩ => ⟨S784x64, .f32⟩
  | .hbm, ⟨1, _⟩ => ⟨S100000x64, .f32⟩
  | .hbm, ⟨2, _⟩ => ⟨S784x1, .f32⟩
  | .hbm, ⟨3, _⟩ => ⟨S1x1x1, .f32⟩
  | .hbm, ⟨4, _⟩ => ⟨S784x1, .i32⟩
  | .hbm, ⟨5, _⟩ => ⟨S784, .f32⟩
  | .hbm, ⟨6, _⟩ => ⟨S_, .f32⟩
  | .hbm, ⟨7, _⟩ => ⟨S784, .i32⟩
  | .local _ .vmem, ⟨0, _⟩ => ⟨S784x64, .f32⟩
  | .local _ .vmem, ⟨1, _⟩ => ⟨S5000x64, .f32⟩
  | .local _ .vmem, ⟨2, _⟩ => ⟨S5000x64, .f32⟩
  | .local _ .vmem, ⟨3, _⟩ => ⟨S784x1, .f32⟩
  | .local _ .vmem, ⟨4, _⟩ => ⟨S784x1, .i32⟩
  | .local _ .vmem, ⟨5, _⟩ => ⟨S784x1, .f32⟩
  | .local _ .vmem, ⟨6, _⟩ => ⟨S784x64, .f32⟩
  | .local _ .vmem, ⟨7, _⟩ => ⟨S1x5000, .f32⟩
  | .local _ .smem, ⟨0, _⟩ => ⟨S1x1x1, .f32⟩
  | _, _ => ⟨S784x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c19_i32 : BitVec 32 := 19#32
  let v37 : BitVec 1 := Scalar.cmpi .eq arg0 c19_i32
  let v_true : BitVec 1 := 1#1
  let v38 : BitVec 1 := Scalar.xori v37 v_true
  let v39 : BitVec 32 := Scalar.extui v38
  let c0_i32_18 : BitVec 32 := 0#32
  let v40 : BitVec 1 := Scalar.cmpi .ne v39 c0_i32_18
  v40

def k0_cond3 (i : grid0.Coords) : BitVec 1 :=
  let arg0 : BitVec 32 := BitVec.ofNat 32 (i 0).val
  let c19_i32 : BitVec 32 := 19#32
  let v37 : BitVec 1 := Scalar.cmpi .eq arg0 c19_i32
  let v41 : BitVec 32 := Scalar.extui v37
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S784x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S784x64 : Shape := ⟨2, ![784, 64]⟩
abbrev S100000x64 : Shape := ⟨2, ![100000, 64]⟩
abbrev S_ : Shape := ⟨0, ![]⟩
abbrev S784 : Shape := ⟨1, ![784]⟩
abbrev S784x1 : Shape := ⟨2, ![784, 1]⟩
abbrev S100000 : Shape := ⟨1, ![100000]⟩
abbrev S1x100000 : Shape := ⟨2, ![1, 100000]⟩
abbrev S784x100000 : Shape := ⟨2, ![784, 100000]⟩
abbrev S64x100000 : Shape := ⟨2, ![64, 100000]⟩

abbrev nBuf : Space → Nat
  | .hbm => 34
  | .vmem => 0
  | .smem => 0
  | _ => 0

abbrev bufTy : (tb : Table) → Fin (tcTables nBuf tb) → BufTy
  | .hbm, ⟨0, _⟩ => ⟨S784x64, .f32⟩
  | .hbm, ⟨1, _⟩ => ⟨S100000x64, .f32⟩
  | .hbm, ⟨2, _⟩ => ⟨S784x64, .f32⟩
  | .hbm, ⟨3, _⟩ => ⟨S_, .f32⟩
  | .hbm, ⟨4, _⟩ => ⟨S784, .f32⟩
  | .hbm, ⟨5, _⟩ => ⟨S784x1, .f32⟩
  | .hbm, ⟨6, _⟩ => ⟨S100000x64, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S784x100000, .f32⟩
  | .hbm, ⟨11, _⟩ => ⟨S784x100000, .f32⟩
  | .hbm, ⟨12, _⟩ => ⟨S784x100000, .f32⟩
  | .hbm, ⟨13, _⟩ => ⟨S64x100000, .f32⟩
  | .hbm, ⟨14, _⟩ => ⟨S784x100000, .f32⟩
  | .hbm, ⟨15, _⟩ => ⟨S_, .f32⟩
  | .hbm, ⟨16, _⟩ => ⟨S784x100000, .f32⟩
  | .hbm, ⟨17, _⟩ => ⟨S784x100000, .f32⟩
  | .hbm, ⟨18, _⟩ => ⟨S784x100000, .f32⟩
  | .hbm, ⟨19, _⟩ => ⟨S_, .f32⟩
  | .hbm, ⟨20, _⟩ => ⟨S784x100000, .f32⟩
  | .hbm, ⟨21, _⟩ => ⟨S784x100000, .f32⟩
  | .hbm, ⟨22, _⟩ => ⟨S784x100000, .f32⟩
  | .hbm, ⟨23, _⟩ => ⟨S784x1, .f32⟩
  | .hbm, ⟨24, _⟩ => ⟨S784x1, .i32⟩
  | .hbm, ⟨25, _⟩ => ⟨S784, .f32⟩
  | .hbm, ⟨26, _⟩ => ⟨S784, .f32⟩
  | .hbm, ⟨27, _⟩ => ⟨S_, .f32⟩
  | .hbm, ⟨28, _⟩ => ⟨S784, .f32⟩
  | .hbm, ⟨29, _⟩ => ⟨S784, .f32⟩
  | .hbm, ⟨30, _⟩ => ⟨S784, .f32⟩
  | .hbm, ⟨31, _⟩ => ⟨S_, .f32⟩
  | .hbm, ⟨32, _⟩ => ⟨S_, .f32⟩
  | .hbm, ⟨33, _⟩ => ⟨S784, .i32⟩
  | _, _ => ⟨S784x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Stored.lean ====
/-
  What one grid point stores: each output block and each carried scratch after a point, as the body's named payloads of the two input blocks and of what
  the point before left. Nothing here looks inside a payload.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Nearest

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The queries as the first grid point reads them. -/
abbrev queries (c : Dev nD) (t : Fin cfg0.N) : Vec F S784x64 .f32 := iblk m c 0 t
/-- The block of 5000 keys that point `t` reads. -/
abbrev keys (c : Dev nD) (t : Fin cfg0.N) : Vec F S5000x64 .f32 := iblk m c 1 t

/-- What the outputs and the carried scratches hold when point `t`, not the first, begins. -/
abbrev before (c : Dev nD) (t : Fin cfg0.N) :=
  outsAt0 m c (t.val - 1) (Nat.lt_of_le_of_lt (Nat.sub_le _ _) t.isLt)

/-- After the first point: the running minimum and its position, started from `+∞` and `0`, and the three scratches filled. -/
theorem stored_first (c : Dev nD) (t : Fin cfg0.N) (h0 : t.val % 20 = 0) (h1 : t.val < 19) (h2 : ¬t.val % 20 = 19) :
    (outsAt0 m c t.val t.isLt).1 = k0_pay12 (keys m c t) (k0_pay6 (queries m c t)) (k0_pay5 (queries m c t)) k0_pay3
    ∧ (outsAt0 m c t.val t.isLt).2.2.1
        = k0_pay13 (grid0.coords t) (keys m c t) (k0_pay6 (queries m c t)) (k0_pay5 (queries m c t)) k0_pay7 k0_pay3 k0_pay4
    ∧ (outsAt0 m c t.val t.isLt).2.2.2 = (k0_pay5 (queries m c t), k0_pay6 (queries m c t), k0_pay7) := by
  rw [outsAt0_A m c t h0 h1 h2]
  refine ⟨?_, ?_, Prod.ext ?_ (Prod.ext ?_ ?_)⟩
  all_goals dsimp only
  all_goals frame_out

/-- After a point that is neither the first nor the last: the running minimum and its position taken one block further; the scratches as they were. -/
theorem stored_middle (c : Dev nD) (t : Fin cfg0.N) (h0 : ¬t.val % 20 = 0) (h1 : t.val < 19) (h2 : ¬t.val % 20 = 19) :
    (outsAt0 m c t.val t.isLt).1
        = k0_pay12 (keys m c t) (before m c t).2.2.2.2.1 (before m c t).2.2.2.1 (before m c t).1
    ∧ (outsAt0 m c t.val t.isLt).2.2.1
        = k0_pay13 (grid0.coords t) (keys m c t) (before m c t).2.2.2.2.1 (before m c t).2.2.2.1 (before m c t).2.2.2.2.2 (before m c t).1 (before m c t).2.2.1
    ∧ (outsAt0 m c t.val t.isLt).2.2.2 = (before m c t).2.2.2 := by
  rw [outsAt0_B m c t h0 h1 h2]
  refine ⟨?_, ?_, Prod.ext ?_ (Prod.ext ?_ ?_)⟩
  all_goals dsimp only
  · frame_out
    simp only [read_unread_whole]
  · frame_out
    simp only [read_unread_whole]
  all_goals rfl

/-- After the last point: the roots of the clamped running minima, their maximum, and the positions. -/
theorem stored_last (c : Dev nD) (t : Fin cfg0.N) (h0 : ¬t.val % 20 = 0) (h1 : ¬t.val < 19) (h2 : t.val % 20 = 19) :
    (outsAt0 m c t.val t.isLt).1
        = k0_pay1 (k0_pay12 (keys m c t) (before m c t).2.2.2.2.1 (before m c t).2.2.2.1 (before m c t).1)
    ∧ (outsAt0 m c t.val t.isLt).2.1
        = (fun _ => k0_pay2 (k0_pay12 (keys m c t) (before m c t).2.2.2.2.1 (before m c t).2.2.2.1 (before m c t).1))
    ∧ (outsAt0 m c t.val t.isLt).2.2.1
        = k0_pay13 (grid0.coords t) (keys m c t) (before m c t).2.2.2.2.1 (before m c t).2.2.2.1 (before m c t).2.2.2.2.2 (before m c t).1 (before m c t).2.2.1 := by
  rw [outsAt0_C m c t h0 h1 h2]
  refine ⟨?_, ?_, ?_⟩
  all_goals dsimp only
  all_goals frame_out
  all_goals simp only [read_unread_whole]
  funext _
  rfl

end Cert.KernelIdeal.Nearest

end
-- ==== Proof.Blocks.lean ====
/-
  Which part of the two arguments a grid point reads: the queries whole at every point, and of the keys the rows `5000 t ≤ j < 5000 (t + 1)`.
-/
module

public import proofs.«01_k».proof.Proof.Stored

@[expose] public section

set_option maxRecDepth 16384

noncomputable section

namespace Cert.KernelIdeal.Nearest

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Where the input windows stand at each point: the queries' at the origin, the keys' one block further down at each point. -/
theorem windows_at : ∀ t : Fin cfg0.N, win0_0.index t = ![0, 0] ∧ win0_1.index t = ![t.val, 0] :=
  (by decide +kernel : ∀ t : Fin grid0.N, win0_0.index t = ![0, 0] ∧ win0_1.index t = ![t.val, 0])

/-- The grid's only coordinate is the point's number. -/
theorem coord_eq : ∀ t : Fin cfg0.N, (grid0.coords t 0).val = t.val :=
  (by decide +kernel : ∀ t : Fin grid0.N, (grid0.coords t 0).val = t.val)

/-- Every point reads the queries whole. -/
theorem queries_eq (c : Dev nD) (t : Fin cfg0.N) : queries m c t = m ((c : Thread nD τ).loc main_arg0) := by
  blk_ext! [iblk, V, windows_at t]

/-- Point `t` reads row `5000 t + j` of the keys as row `j` of its block. -/
theorem keys_apply (c : Dev nD) (t : Fin cfg0.N) (j : Fin 5000) (k : Fin 64) (h : 5000 * t.val + j.val < 100000) :
    keys m c t (ix2 j k) = m ((c : Thread nD τ).loc main_arg1) (ix2 ⟨5000 * t.val + j.val, h⟩ k) := by
  blk_ext [iblk, V, windows_at t]

end Cert.KernelIdeal.Nearest

end
-- ==== Proof.Arrays.lean ====
/-
  What the kernel's result arrays hold after the run: each is written back once, after the last point, whole; the three reshapes after the region then only
  drop unit axes.
-/
module

public import proofs.«01_k».proof.Proof.Blocks

@[expose] public section

set_option maxRecDepth 16384

noncomputable section

namespace Cert.KernelIdeal.Nearest

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The last grid point. -/
def lastPt : Fin cfg0.N := ⟨19, by rw [show cfg0.N = 20 from N_0]; decide⟩

/-- What the outputs hold after the last point. -/
abbrev final (c : Dev nD) := outsAt0 m c lastPt.val lastPt.isLt

/-- The array of scores ends as the last point leaves its block. -/
theorem scores_array (c : Dev nD) : (dats m 0 c).arrAt 2 cfg0.N = (final m c).1 := by
  refine (dats m 0 c).arrAt_eq_of_after_last 2 lastPt (by decide +kernel) _ fun j => ?_
  blk_simp
  rw [after0_2]

/-- The one word of the image score ends as the last point leaves it. -/
theorem image_array (c : Dev nD) : (dats m 0 c).arrAt 3 cfg0.N = (final m c).2.1 := by
  refine (dats m 0 c).arrAt_eq_of_after_last 3 lastPt (by decide +kernel) _ fun j => ?_
  blk_simp
  rw [after0_3]

/-- The array of positions ends as the last point leaves its block. -/
theorem index_array (c : Dev nD) : (dats m 0 c).arrAt 4 cfg0.N = (final m c).2.2.1 := by
  refine (dats m 0 c).arrAt_eq_of_after_last 4 lastPt (by decide +kernel) _ fun j => ?_
  blk_simp
  rw [after0_4]

/-- The kernel's run: the three results are the last point's blocks without their unit axes, and the arguments are unchanged. -/
theorem run : θ_run defs (onTc (τ := τ) (main (F := F))) ⟨m, fun _ => 0, ρ⟩ fun r => ∀ c : Dev nD,
      r.2.mem ((c.tc : Thread nD τ).loc main_v1) = shapeCast S784 (final m c).1 shapeCasts_S784x1_S784
      ∧ r.2.mem ((c.tc : Thread nD τ).loc main_v2) = shapeCast S_ (final m c).2.1 shapeCasts_S1x1x1_S_
      ∧ r.2.mem ((c.tc : Thread nD τ).loc main_v3) = shapeCast S784 (final m c).2.2.1 shapeCasts_S784x1_S784
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, (h.2 c).1, (h.2 c).2⟩) (θ_run_and (run_main m ρ) (unchanged m ρ))
  · refine ((h.1 c).2 main_v1 (by decide)).trans ?_
    unfold Pipeline.afterTail₀
    simp only [List.flatten_cons, List.flatten_nil, List.append_nil]
    after_results_simp
    rw [← scores_array m c]
    exact congrArg (fun x => shapeCast S784 x shapeCasts_S784x1_S784)
      (Pipeline.withArrays_arr spec0 launch0.win.arr_inj c (V0 m c) (fun w => (dats m 0 c).arrAt w (cfgs 0).N) 2)
  · refine ((h.1 c).2 main_v2 (by decide)).trans ?_
    unfold Pipeline.afterTail₀
    simp only [List.flatten_cons, List.flatten_nil, List.append_nil]
    after_results_simp
    rw [← image_array m c]
    exact congrArg (fun x => shapeCast S_ x shapeCasts_S1x1x1_S_)
      (Pipeline.withArrays_arr spec0 launch0.win.arr_inj c (V0 m c) (fun w => (dats m 0 c).arrAt w (cfgs 0).N) 3)
  · refine ((h.1 c).2 main_v3 (by decide)).trans ?_
    unfold Pipeline.afterTail₀
    simp only [List.flatten_cons, List.flatten_nil, List.append_nil]
    after_results_simp
    rw [← index_array m c]
    exact congrArg (fun x => shapeCast S784 x shapeCasts_S784x1_S784)
      (Pipeline.withArrays_arr spec0 launch0.win.arr_inj c (V0 m c) (fun w => (dats m 0 c).arrAt w (cfgs 0).N) 4)

end Cert.KernelIdeal.Nearest

end
-- ==== Proof.FirstLeast.lean ====
/-
  The mathematics of a nearest neighbour, with no program in it: the first index at which a row of distances is least, how it is found block by block, and
  how a stable sort finds it at once.
-/
module

public import proofs.«01_k».proof.Proof.Arrays
public import Idealize.ShloMosaic.Lib.SortFacts

@[expose] public section

namespace Cert.Nearest

open Idealize.ShloMosaic

/-- Among the indices below `N`, `j` is the first one at which `d` is least. -/
structure FirstLeast {n : ℕ} (d : Fin n → ℝ) (N : ℕ) (j : Fin n) : Prop where
  lt : j.val < N
  le : ∀ i : Fin n, i.val < N → d j ≤ d i
  first : ∀ i : Fin n, i < j → d j < d i

/-- There is one such index at most. -/
theorem FirstLeast.unique {n N : ℕ} {d : Fin n → ℝ} {i j : Fin n} (hi : FirstLeast d N i)
    (hj : FirstLeast d N j) : i = j := by
  rcases lt_trichotomy i j with h | h | h
  · exact absurd (hi.le j hj.lt) (not_le.mpr (hj.first i h))
  · exact h
  · exact absurd (hj.le i hi.lt) (not_le.mpr (hi.first j h))

/-- The first block alone: its first least index is the row's so far. -/
theorem FirstLeast.start {n B : ℕ} {d : Fin n → ℝ} {e : Fin B → ℝ} {b : Fin B} (hb : FirstLeast e B b)
    (hB : B ≤ n) (he : ∀ x : Fin B, e x = d ⟨x.val, by omega⟩) : FirstLeast d B ⟨b.val, by omega⟩ where
  lt := b.isLt
  le i hi := by
    have := hb.le ⟨i.val, hi⟩ hi
    rwa [he, he] at this
  first i hi := by
    have hlt : i.val < b.val := hi
    have := hb.first ⟨i.val, by omega⟩ hlt
    rwa [he, he] at this

/-- An index at or past `N` is `N` and its position past it. -/
theorem back {n N : ℕ} (i : Fin n) (h : ¬ i.val < N) (h' : N + (i.val - N) < n := by omega) :
    (⟨N + (i.val - N), h'⟩ : Fin n) = i := Fin.ext (by simp only; omega)

/-- A further block whose least distance improves on the least so far: its first least index takes over. -/
theorem FirstLeast.better {n N B : ℕ} {d : Fin n → ℝ} {e : Fin B → ℝ} {j : Fin n} {b : Fin B}
    (hj : FirstLeast d N j) (hb : FirstLeast e B b) (hN : N + B ≤ n)
    (he : ∀ x : Fin B, e x = d ⟨N + x.val, by omega⟩) (hlt : e b < d j) :
    FirstLeast d (N + B) ⟨N + b.val, by omega⟩ where
  lt := by simp
  le i hi := by
    rw [← he b]
    by_cases h : i.val < N
    · exact hlt.le.trans (hj.le i h)
    · have := hb.le ⟨i.val - N, by omega⟩ (by simp only; omega)
      rw [he ⟨i.val - N, _⟩, back i h] at this
      exact this
  first i hi := by
    rw [← he b]
    have hi' : i.val < N + b.val := hi
    by_cases h : i.val < N
    · exact hlt.trans_le (hj.le i h)
    · have := hb.first ⟨i.val - N, by omega⟩ (by show i.val - N < b.val; omega)
      rw [he ⟨i.val - N, _⟩, back i h] at this
      exact this

/-- A further block whose least distance does not improve on the least so far: the earlier index stays. -/
theorem FirstLeast.keep {n N B : ℕ} {d : Fin n → ℝ} {e : Fin B → ℝ} {j : Fin n} {b : Fin B}
    (hj : FirstLeast d N j) (hb : FirstLeast e B b) (hN : N + B ≤ n)
    (he : ∀ x : Fin B, e x = d ⟨N + x.val, by omega⟩) (hge : ¬ e b < d j) :
    FirstLeast d (N + B) j where
  lt := Nat.lt_add_right B hj.lt
  le i hi := by
    by_cases h : i.val < N
    · exact hj.le i h
    · have := hb.le ⟨i.val - N, by omega⟩ (by simp only; omega)
      rw [he ⟨i.val - N, _⟩, back i h] at this
      exact (not_lt.mp hge).trans this
  first i hi := hj.first i hi

/-- The head of a stable sort of an ascending list by a real key: the key is least there, and strictly
less than at every earlier entry. -/
theorem head_stableSort {n : ℕ} (before : Fin n → Fin n → Bool) (d : Fin n → ℝ)
    (hd : ∀ a b, before a b = true ↔ d a < d b) (l : List (Fin n)) (hl : l.Pairwise (· < ·)) (h0 : l ≠ []) :
    ∃ h t, stableSort before l = h :: t ∧ h ∈ l ∧ ∀ b ∈ l, d h ≤ d b ∧ (b < h → d h < d b) := by
  induction l with
  | nil => exact absurd rfl h0
  | cons a l ih =>
    rw [List.pairwise_cons] at hl
    by_cases hnil : l = []
    · subst hnil
      refine ⟨a, [], rfl, by simp, fun b hb => ?_⟩
      obtain rfl : b = a := by simpa using hb
      exact ⟨le_refl _, fun h => absurd h (lt_irrefl _)⟩
    · obtain ⟨h, t, hs, hm, hle⟩ := ih hl.2 hnil
      have hsort : stableSort before (a :: l) = insertBefore before a (h :: t) := by
        rw [← hs]; rfl
      by_cases hb : before h a = true
      · refine ⟨h, insertBefore before a t, ?_, List.mem_cons_of_mem a hm, fun b hbm => ?_⟩
        · rw [hsort]; simp [insertBefore, hb]
        · rcases List.mem_cons.mp hbm with rfl | hbl
          · exact ⟨((hd _ _).mp hb).le, fun _ => (hd _ _).mp hb⟩
          · exact hle b hbl
      · have hah : d a ≤ d h := not_lt.mp fun hlt => hb ((hd _ _).mpr hlt)
        refine ⟨a, h :: t, ?_, List.mem_cons_self, fun b hbm => ?_⟩
        · rw [hsort]; simp [insertBefore, hb]
        · rcases List.mem_cons.mp hbm with rfl | hbl
          · exact ⟨le_refl _, fun h => absurd h (lt_irrefl _)⟩
          · exact ⟨hah.trans (hle b hbl).1, fun hlt => absurd hlt (not_lt.mpr (hl.1 b hbl).le)⟩

/-- The position a stable sort puts first is the first at which the key is least. -/
theorem firstLeast_sortedFrom {n : ℕ} (before : Fin n → Fin n → Bool) (d : Fin n → ℝ)
    (hd : ∀ a b, before a b = true ↔ d a < d b) (k : Fin n) (hk : k.val = 0) :
    FirstLeast d n (sortedFrom before k) := by
  have hne : List.finRange n ≠ [] := by
    intro h
    have := List.length_finRange (n := n)
    rw [h] at this
    exact absurd k.isLt (by simp at this; omega)
  obtain ⟨h, t, hs, _, hle⟩ := head_stableSort before d hd (List.finRange n) (List.pairwise_lt_finRange n) hne
  have hfrom : sortedFrom before k = h := by
    have hget : ∀ (l : List (Fin n)) (e : n = l.length), l = h :: t → l.get (k.cast e) = h := by
      rintro l e rfl
      have : k.cast e = ⟨0, by simp⟩ := Fin.ext hk
      rw [this]; rfl
    exact hget _ _ hs
  rw [hfrom]
  exact ⟨h.isLt, fun i _ => (hle i (List.mem_finRange i)).1, fun i => (hle i (List.mem_finRange i)).2⟩

/-- Every nonempty row has a first least index. -/
theorem exists_firstLeast {n : ℕ} (d : Fin n → ℝ) (hn : 0 < n) : ∃ j, FirstLeast d n j :=
  ⟨_, firstLeast_sortedFrom (fun a b => decide (d a < d b)) d (fun _ _ => decide_eq_true_iff) ⟨0, hn⟩ rfl⟩

/-- A minimum taken from plus infinity is any entry that is below all the others. -/
theorem fold_min_eq {n : ℕ} (f : Fin n → EReal) (j : Fin n) (h : ∀ x, f j ≤ f x) :
    Finset.univ.fold min ⊤ f = f j :=
  le_antisymm (Finset.fold_min_le _ |>.mpr (Or.inr ⟨j, Finset.mem_univ j, le_refl _⟩))
    (Finset.le_fold_min _ |>.mpr ⟨le_top, fun x _ => h x⟩)

/-- The least distance of a block. -/
theorem FirstLeast.min_eq {B : ℕ} {e : Fin B → ℝ} {b : Fin B} (hb : FirstLeast e B b) :
    Finset.univ.fold min ⊤ (fun x => ((e x : ℝ) : EReal)) = ((e b : ℝ) : EReal) :=
  fold_min_eq (fun x => ((e x : ℝ) : EReal)) b fun x => EReal.coe_le_coe_iff.mpr (hb.le x x.isLt)

/-- The least position at which a block reaches its least distance, read as a number: every other
position counts as the block's length. -/
theorem FirstLeast.position_eq {B : ℕ} {e : Fin B → ℝ} {b : Fin B} (hb : FirstLeast e B b) :
    Finset.univ.fold min ⊤ (fun x : Fin B =>
      if ((e x : ℝ) : EReal) = ((e b : ℝ) : EReal) then (((x.val : ℕ) : ℝ) : EReal) else ((B : ℝ) : EReal))
      = (((b.val : ℕ) : ℝ) : EReal) := by
  rw [fold_min_eq _ b fun x => ?_]
  · exact if_pos rfl
  · simp only [if_true]
    split_ifs with h
    · have hxb : b ≤ x := not_lt.mp fun hlt => absurd (EReal.coe_injective h) (hb.first x hlt).ne'
      exact EReal.coe_le_coe_iff.mpr (Nat.cast_le.mpr hxb)
    · exact EReal.coe_le_coe_iff.mpr (Nat.cast_le.mpr b.isLt.le)

end Cert.Nearest
-- ==== Proof.Distance.lean ====
/-
  The squared distance of two finite vectors, and the two ways the programs spell it on the extended reals: the square expanded, with `-2` on the query
  (the kernel) or `2` on the product (the reference). Also the bit patterns and the words that the programs carry, as numbers.
-/
module

public import proofs.«01_k».proof.Proof.FirstLeast
public import Idealize.ShloMosaic.PureOps

@[expose] public section

noncomputable section

namespace Cert.Nearest

open Idealize.ShloMosaic
open scoped BigOperators

/-- The squared distance of two real vectors. -/
def distance {n : ℕ} (q k : Fin n → ℝ) : ℝ := ∑ x, (q x - k x) ^ 2

/-- A squared distance is not negative. -/
theorem distance_nonneg {n : ℕ} (q k : Fin n → ℝ) : 0 ≤ distance q k :=
  Finset.sum_nonneg fun x _ => sq_nonneg (q x - k x)

/-- A finite sum of reals is the same sum on the extended reals. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The square expanded, the query scaled by `-2` before the product. -/
theorem expanded_left {n : ℕ} (q k : Fin n → ℝ) :
    ∑ x, (q x : EReal) * (q x : EReal) + ∑ x, (k x : EReal) * (k x : EReal)
      + ∑ x, ((q x : EReal) * ((-2 : ℝ) : EReal)) * (k x : EReal) = ((distance q k : ℝ) : EReal) := by
  simp only [← EReal.coe_mul, sum_coe, ← EReal.coe_add]
  congr 1
  rw [distance, ← Finset.sum_add_distrib, ← Finset.sum_add_distrib]
  exact Finset.sum_congr rfl fun x _ => by ring

/-- The square expanded, the product doubled and taken away. -/
theorem expanded_right {n : ℕ} (q k : Fin n → ℝ) :
    ∑ x, (q x : EReal) * (q x : EReal) + ∑ x, (k x : EReal) * (k x : EReal)
      - ((2 : ℝ) : EReal) * ∑ x, (q x : EReal) * (k x : EReal) = ((distance q k : ℝ) : EReal) := by
  simp only [← EReal.coe_mul, sum_coe, ← EReal.coe_add, ← EReal.coe_sub]
  congr 1
  rw [distance, Finset.mul_sum, ← Finset.sum_add_distrib, ← Finset.sum_sub_distrib]
  exact Finset.sum_congr rfl fun x _ => by ring

/-- The pattern of plus infinity. -/
theorem pattern_top : Ideal.ofBits .f32 0x7F800000#32 = ⊤ := by simp [Ideal.ofBits, Ideal.ieee]

/-- The pattern of two. -/
theorem pattern_two : Ideal.ofBits .f32 0x40000000#32 = ((2 : ℝ) : EReal) := by
  simp [Ideal.ofBits, Ideal.ieee, -EReal.coe_mul]; norm_num

/-- The pattern of minus two. -/
theorem pattern_neg_two : Ideal.ofBits .f32 0xC0000000#32 = ((-2 : ℝ) : EReal) := by
  simp [Ideal.ofBits, Ideal.ieee, -EReal.coe_mul, -EReal.coe_neg]; norm_num

/-- The pattern of five thousand, the length of a block. -/
theorem pattern_block : Ideal.ofBits .f32 0x459C4000#32 = (((5000 : ℕ) : ℝ) : EReal) := by
  simp [Ideal.ofBits, Ideal.ieee, -EReal.coe_mul]; norm_num

/-- A position below a block's length read from its word as a number. -/
theorem word_to_number (b : Fin 5000) : (FloatOps.sitofp .f32 (BitVec.ofNat 32 b.val) : Ideal .f32) = (((b.val : ℕ) : ℝ) : EReal) := by
  have hb := b.isLt
  have h : (BitVec.ofNat 32 b.val).toInt = (b.val : ℤ) := by
    rw [BitVec.toInt_eq_toNat_of_lt (by rw [BitVec.toNat_ofNat]; omega), BitVec.toNat_ofNat]
    omega
  show (((BitVec.ofNat 32 b.val).toInt : ℝ) : EReal) = _
  rw [h]
  norm_cast

/-- A position below a block's length, held as a number, is its word when truncated to an integer. -/
theorem number_to_word (b : Fin 5000) :
    FloatOps.fptosi (F := Ideal) (φ := .f32) 32 (((b.val : ℕ) : ℝ) : EReal) = BitVec.ofNat 32 b.val := by
  have hb := b.isLt
  show Ideal.fptosi 32 (((b.val : ℕ) : ℝ) : EReal) = _
  unfold Ideal.fptosi
  rw [Ideal.toIntClamped_coe, if_pos (Nat.cast_nonneg _), Int.floor_natCast]
  rw [show max (-((2 ^ (32 - 1) : ℕ) : ℤ)) (min (((2 ^ (32 - 1) : ℕ) : ℤ) - 1) (b.val : ℤ)) = (b.val : ℤ) by omega]
  exact BitVec.ofInt_natCast _ _

/-- The word of a position in block `t`, from the block's number and the place in it. -/
theorem word_of_position (t b : ℕ) :
    IntOp.addi (Scalar.muli (BitVec.ofNat 32 t) 5000#32) (BitVec.ofNat 32 b) = BitVec.ofNat 32 (5000 * t + b) := by
  show BitVec.ofNat 32 t * BitVec.ofNat 32 5000 + BitVec.ofNat 32 b = _
  rw [← BitVec.ofNat_mul, ← BitVec.ofNat_add, Nat.mul_comm t 5000]

end Cert.Nearest

end
-- ==== Proof.OneBlock.lean ====
/-
  What one block computes at the ideal values, the queries and the block's keys finite: the squared distances, their least and where it is first reached, and
  the running minimum and position that result.
-/
module

public import proofs.«01_k».proof.Proof.Distance
public import Idealize.ShloMosaic.Lib.Pointwise

@[expose] public section

set_option maxRecDepth 16384

noncomputable section

namespace Cert.KernelIdeal.Nearest

open Cert.KernelIdeal Cert.KernelIdeal.Gen Cert.Nearest
open Idealize.ShloMosaic

variable (kb : Vec Ideal S5000x64 .f32) (q : Vec Ideal S784x64 .f32) (s cur : Vec Ideal S784x1 .f32)

/-- The queries' squared norms. -/
theorem norms_apply (r : Fin 784) : k0_pay5 q (ix2 r (0 : Fin 1)) = ∑ x : Fin 64, q (ix2 r x) * q (ix2 r x) := by
  unfold k0_pay5
  pointwise

/-- The queries times minus two. -/
theorem scaled_apply (r : Fin 784) (x : Fin 64) : k0_pay6 q (ix2 r x) = q (ix2 r x) * ((-2 : ℝ) : EReal) := by
  rw [← pattern_neg_two]
  unfold k0_pay6
  pointwise

/-- The positions in a block, as numbers. -/
theorem positions_apply (j : Fin 5000) : (k0_pay7 : FVec Ideal S1x5000 .f32) (ix2 (0 : Fin 1) j) = (((j.val : ℕ) : ℝ) : EReal) := by
  rw [← word_to_number]
  unfold k0_pay7
  pointwise

/-- The sum of a query's norm, a key's norm and their product. -/
theorem sums_apply (r : Fin 784) (j : Fin 5000) :
    k0_pay8 kb q s (ix2 r j)
      = s (ix2 r (0 : Fin 1)) + ∑ x : Fin 64, kb (ix2 j x) * kb (ix2 j x) + ∑ x : Fin 64, q (ix2 r x) * kb (ix2 j x) := by
  unfold k0_pay8
  pointwise

/-- The least of a block's sums. -/
theorem least_apply (r : Fin 784) :
    k0_pay9 kb q s (ix2 r (0 : Fin 1)) = Finset.univ.fold min ⊤ fun j : Fin 5000 => k0_pay8 kb q s (ix2 r j) := by
  rw [← pattern_top]
  unfold k0_pay9
  pointwise

/-- The running minimum, one block further. -/
theorem running_apply (r : Fin 784) :
    k0_pay12 kb q s cur (ix2 r (0 : Fin 1))
      = if k0_pay9 kb q s (ix2 r (0 : Fin 1)) < cur (ix2 r (0 : Fin 1)) then k0_pay9 kb q s (ix2 r (0 : Fin 1)) else cur (ix2 r (0 : Fin 1)) := by
  unfold k0_pay12 k0_pay11 k0_pay10
  pointwise

/-- The running position, one block further. -/
theorem place_apply (i : grid0.Coords) (io : Vec Ideal S1x5000 .f32) (ix : Vec Ideal S784x1 .i32) (r : Fin 784) :
    k0_pay13 i kb q s io cur ix (ix2 r (0 : Fin 1))
      = if k0_pay9 kb q s (ix2 r (0 : Fin 1)) < cur (ix2 r (0 : Fin 1))
        then IntOp.addi (Scalar.muli (BitVec.ofNat 32 (i 0).val) 5000#32)
          (FloatOps.fptosi (F := Ideal) (φ := .f32) 32 (Finset.univ.fold min ⊤ fun j : Fin 5000 =>
            if k0_pay8 kb q s (ix2 r j) = k0_pay9 kb q s (ix2 r (0 : Fin 1)) then io (ix2 (0 : Fin 1) j) else (((5000 : ℕ) : ℝ) : EReal)))
        else ix (ix2 r (0 : Fin 1)) := by
  rw [← pattern_top, ← pattern_block]
  unfold k0_pay13 k0_pay11 k0_pay10
  pointwise

/-- The scores from the running minima. -/
theorem scores_apply (v : FVec Ideal S784x1 .f32) (r : Fin 784) :
    k0_pay1 v (ix2 r (0 : Fin 1)) = Ideal.sqrt (max (v (ix2 r (0 : Fin 1))) 0 + Ideal.ofBits .f32 0x2B8CBCCC#32) := by
  unfold k0_pay1
  pointwise

/-- The greatest of the scores. -/
theorem greatest_apply (v : FVec Ideal S784x1 .f32) :
    k0_pay2 v = Finset.univ.fold max (Ideal.ofBits .f32 0xFF800000#32) fun x : Fin 784 × Fin 1 => k0_pay1 v (ix2 x.1 (0 : Fin 1)) := by
  unfold k0_pay2
  pointwise

variable {kb q} {Q : Fin 784 → Fin 64 → ℝ} {K : Fin 5000 → Fin 64 → ℝ}

/-- With finite arrays, a block's sums are the squared distances. -/
theorem sums_eq (hq : ∀ r x, q (ix2 r x) = ((Q r x : ℝ) : EReal)) (hk : ∀ j x, kb (ix2 j x) = ((K j x : ℝ) : EReal))
    (r : Fin 784) (j : Fin 5000) :
    k0_pay8 kb (k0_pay6 q) (k0_pay5 q) (ix2 r j) = ((distance (Q r) (K j) : ℝ) : EReal) := by
  rw [sums_apply, norms_apply, ← expanded_left]
  simp only [scaled_apply, hq, hk]

variable {b : Fin 5000}

/-- With finite arrays, a block's least sum is the distance at the block's first least position. -/
theorem least_eq (hq : ∀ r x, q (ix2 r x) = ((Q r x : ℝ) : EReal)) (hk : ∀ j x, kb (ix2 j x) = ((K j x : ℝ) : EReal))
    (r : Fin 784) (hb : FirstLeast (fun j => distance (Q r) (K j)) 5000 b) :
    k0_pay9 kb (k0_pay6 q) (k0_pay5 q) (ix2 r (0 : Fin 1)) = ((distance (Q r) (K b) : ℝ) : EReal) := by
  rw [least_apply, ← hb.min_eq]
  simp only [sums_eq hq hk]

/-- With finite arrays, the running minimum takes the block's least distance where that is less. -/
theorem running_eq (hq : ∀ r x, q (ix2 r x) = ((Q r x : ℝ) : EReal)) (hk : ∀ j x, kb (ix2 j x) = ((K j x : ℝ) : EReal))
    (r : Fin 784) (hb : FirstLeast (fun j => distance (Q r) (K j)) 5000 b) :
    k0_pay12 kb (k0_pay6 q) (k0_pay5 q) cur (ix2 r (0 : Fin 1))
      = if ((distance (Q r) (K b) : ℝ) : EReal) < cur (ix2 r (0 : Fin 1)) then ((distance (Q r) (K b) : ℝ) : EReal) else cur (ix2 r (0 : Fin 1)) := by
  rw [running_apply, least_eq hq hk r hb]

/-- With finite arrays, the running position takes the block's first least position where its distance is less. -/
theorem place_eq (hq : ∀ r x, q (ix2 r x) = ((Q r x : ℝ) : EReal)) (hk : ∀ j x, kb (ix2 j x) = ((K j x : ℝ) : EReal))
    (r : Fin 784) (hb : FirstLeast (fun j => distance (Q r) (K j)) 5000 b) (i : grid0.Coords) (ix : Vec Ideal S784x1 .i32) :
    k0_pay13 i kb (k0_pay6 q) (k0_pay5 q) (k0_pay7 (F := Ideal)) cur ix (ix2 r (0 : Fin 1))
      = if ((distance (Q r) (K b) : ℝ) : EReal) < cur (ix2 r (0 : Fin 1)) then BitVec.ofNat 32 (5000 * (i 0).val + b.val) else ix (ix2 r (0 : Fin 1)) := by
  rw [place_apply, least_eq hq hk r hb]
  simp only [sums_eq hq hk, positions_apply]
  rw [hb.position_eq, number_to_word, word_of_position]

end Cert.KernelIdeal.Nearest

end
-- ==== Proof.Running.lean ====
/-
  What the kernel holds point by point, the queries and keys finite: after the point that reads block `n`, each query's least squared distance among the first
  `5000 (n + 1)` keys and the first key at which it is reached; after the last point, the three results.
-/
module

public import proofs.«01_k».proof.Proof.OneBlock

@[expose] public section

set_option maxRecDepth 16384

noncomputable section

namespace Cert.KernelIdeal.Nearest

open Cert.KernelIdeal Cert.KernelIdeal.Gen Cert.Nearest
open Idealize.ShloMosaic Idealize.ShloMosaic.TcCoe Idealize.SL.Sem

variable {m : (ℓ : Loc nD τ sig) → Buf (Elt Ideal) ℓ} {c : Dev nD}
variable {Q : Fin 784 → Fin 64 → ℝ} {K : Fin 100000 → Fin 64 → ℝ}

/-- The query array of device `c` holds the reals `Q`. -/
abbrev HoldsQueries (m : (ℓ : Loc nD τ sig) → Buf (Elt Ideal) ℓ) (c : Dev nD) (Q : Fin 784 → Fin 64 → ℝ) : Prop :=
  ∀ r x, (m ((c : Thread nD τ).loc main_arg0) : Vec Ideal S784x64 .f32) (ix2 r x) = ((Q r x : ℝ) : EReal)

/-- The key array of device `c` holds the reals `K`. -/
abbrev HoldsKeys (m : (ℓ : Loc nD τ sig) → Buf (Elt Ideal) ℓ) (c : Dev nD) (K : Fin 100000 → Fin 64 → ℝ) : Prop :=
  ∀ j x, (m ((c : Thread nD τ).loc main_arg1) : Vec Ideal S100000x64 .f32) (ix2 j x) = ((K j x : ℝ) : EReal)

/-- Row `j` of block `t` among all the keys. -/
abbrev row (t : Fin cfg0.N) (j : Fin 5000) : Fin 100000 :=
  ⟨5000 * t.val + j.val, by have ht : t.val < 20 := N_0 ▸ t.isLt; have := j.isLt; omega⟩

/-- A running minimum and position for query `r`: the first least of the first `N` keys. -/
def Holds (Q : Fin 784 → Fin 64 → ℝ) (K : Fin 100000 → Fin 64 → ℝ) (N : ℕ) (r : Fin 784) (v : EReal) (p : BitVec 32) : Prop :=
  ∃ j, FirstLeast (fun j => distance (Q r) (K j)) N j ∧ v = ((distance (Q r) (K j) : ℝ) : EReal) ∧ p = BitVec.ofNat 32 j.val

/-- Point `t` reads the block's rows of `K`. -/
theorem keys_hold (hk : HoldsKeys m c K) (t : Fin cfg0.N) (j : Fin 5000) (x : Fin 64) :
    keys m c t (ix2 j x) = ((K (row t j) x : ℝ) : EReal) :=
  (keys_apply m c t j x (row t j).isLt).trans (hk _ x)

/-- The first block, from a running minimum of plus infinity. -/
theorem holds_start (hq : HoldsQueries m c Q) (hk : HoldsKeys m c K) (t : Fin cfg0.N) (ht : t.val = 0) (r : Fin 784)
    (ix : Vec Ideal S784x1 .i32) (cur : Vec Ideal S784x1 .f32) (hcur : cur (ix2 r (0 : Fin 1)) = ⊤) :
    Holds Q K 5000 r
      (k0_pay12 (keys m c t) (k0_pay6 (queries m c t)) (k0_pay5 (queries m c t)) cur (ix2 r (0 : Fin 1)))
      (k0_pay13 (grid0.coords t) (keys m c t) (k0_pay6 (queries m c t)) (k0_pay5 (queries m c t)) (k0_pay7 (F := Ideal)) cur ix (ix2 r (0 : Fin 1))) := by
  obtain ⟨b, hb⟩ := exists_firstLeast (fun j : Fin 5000 => distance (Q r) (K (row t j))) (by decide)
  have hb' := hb.start (d := fun j => distance (Q r) (K j)) (by decide) fun x => by
    simp only [row, ht, Nat.mul_zero, Nat.zero_add]
  have hrow : row t b = ⟨b.val, by omega⟩ := Fin.ext (by simp only [row, ht]; omega)
  rw [queries_eq]
  refine ⟨_, hb', ?_, ?_⟩
  · rw [running_eq cur hq (keys_hold hk t) r hb, hcur, if_pos (EReal.coe_lt_top _), hrow]
  · rw [place_eq cur hq (keys_hold hk t) r hb, hcur, if_pos (EReal.coe_lt_top _), coord_eq, ht, Nat.mul_zero, Nat.zero_add]

/-- A further block. -/
theorem holds_step (hq : HoldsQueries m c Q) (hk : HoldsKeys m c K) (t : Fin cfg0.N) (r : Fin 784)
    (ix : Vec Ideal S784x1 .i32) (cur : Vec Ideal S784x1 .f32)
    (h : Holds Q K (5000 * t.val) r (cur (ix2 r (0 : Fin 1))) (ix (ix2 r (0 : Fin 1)))) :
    Holds Q K (5000 * t.val + 5000) r
      (k0_pay12 (keys m c t) (k0_pay6 (m ((c : Thread nD τ).loc main_arg0))) (k0_pay5 (m ((c : Thread nD τ).loc main_arg0))) cur (ix2 r (0 : Fin 1)))
      (k0_pay13 (grid0.coords t) (keys m c t) (k0_pay6 (m ((c : Thread nD τ).loc main_arg0))) (k0_pay5 (m ((c : Thread nD τ).loc main_arg0)))
        (k0_pay7 (F := Ideal)) cur ix (ix2 r (0 : Fin 1))) := by
  have ht : t.val < 20 := N_0 ▸ t.isLt
  obtain ⟨j, hj, hv, hp⟩ := h
  obtain ⟨b, hb⟩ := exists_firstLeast (fun j : Fin 5000 => distance (Q r) (K (row t j))) (by decide)
  by_cases hlt : distance (Q r) (K (row t b)) < distance (Q r) (K j)
  · have hlt' := EReal.coe_lt_coe_iff.mpr hlt
    refine ⟨_, hj.better hb (by omega) (fun x => rfl) hlt, ?_, ?_⟩
    · rw [running_eq cur hq (keys_hold hk t) r hb, hv, if_pos hlt']
    · rw [place_eq cur hq (keys_hold hk t) r hb, hv, if_pos hlt', coord_eq]
  · have hlt' := fun h => hlt (EReal.coe_lt_coe_iff.mp h)
    refine ⟨j, hj.keep hb (by omega) (fun x => rfl) hlt, ?_, ?_⟩
    · rw [running_eq cur hq (keys_hold hk t) r hb, hv, if_neg hlt']
    · rw [place_eq cur hq (keys_hold hk t) r hb, hv, if_neg hlt', hp]

/-- After each point before the last: the scratches filled from the queries, and each query's first least key so far. -/
theorem running (hq : HoldsQueries m c Q) (hk : HoldsKeys m c K) (n : ℕ) (hn : n < 19) (hN : n < cfg0.N) :
    (outsAt0 m c n hN).2.2.2
        = (k0_pay5 (m ((c : Thread nD τ).loc main_arg0)), k0_pay6 (m ((c : Thread nD τ).loc main_arg0)), k0_pay7 (F := Ideal))
    ∧ ∀ r : Fin 784, Holds Q K (5000 * n + 5000) r ((outsAt0 m c n hN).1 (ix2 r (0 : Fin 1))) ((outsAt0 m c n hN).2.2.1 (ix2 r (0 : Fin 1))) := by
  induction n with
  | zero =>
    obtain ⟨h1, h2, h3⟩ := stored_first m c ⟨0, hN⟩ rfl hn (by show ¬ 0 % 20 = 19; decide)
    refine ⟨by rw [h3, queries_eq], fun r => ?_⟩
    rw [h1, h2]
    refine holds_start hq hk ⟨0, hN⟩ rfl r _ _ ?_
    show Ideal.ofBits .f32 0x7F800000#32 = ⊤
    exact pattern_top
  | succ n ih =>
    obtain ⟨hs, hr⟩ := ih (by omega) (by omega)
    obtain ⟨h1, h2, h3⟩ := stored_middle m c ⟨n + 1, hN⟩ (by show ¬ (n + 1) % 20 = 0; omega) hn (by show ¬ (n + 1) % 20 = 19; omega)
    have hs' : (before m c ⟨n + 1, hN⟩).2.2.2 = _ := hs
    refine ⟨h3.trans hs, fun r => ?_⟩
    rw [h1, h2, hs']
    exact holds_step hq hk ⟨n + 1, hN⟩ r _ _ (hr r)

/-- After the last point: from each query's first least key among all of them, the position, the score, and the greatest of the scores. -/
theorem last (hq : HoldsQueries m c Q) (hk : HoldsKeys m c K) :
    ∃ v : FVec Ideal S784x1 .f32, (final m c).1 = k0_pay1 v ∧ (final m c).2.1 = (fun _ => k0_pay2 v)
      ∧ ∀ r : Fin 784, Holds Q K 100000 r (v (ix2 r (0 : Fin 1))) ((final m c).2.2.1 (ix2 r (0 : Fin 1))) := by
  obtain ⟨h1, h2, h3⟩ := stored_last m c lastPt (by decide) (by decide) (by decide)
  obtain ⟨hs, hr⟩ := running hq hk 18 (by decide) (by rw [show cfg0.N = 20 from N_0]; decide)
  have hs' : (before m c lastPt).2.2.2 = _ := hs
  rw [hs'] at h1 h2 h3
  refine ⟨_, h1, h2, fun r => ?_⟩
  rw [h3]
  exact holds_step hq hk lastPt r _ _ (hr r)

end Cert.KernelIdeal.Nearest

end
-- ==== Proof.Reference.lean ====
/-
  What the reference computes, the queries and keys finite: the one greatest of the negated clamped distances of a row, which is the first least distance and
  its key, then the scores and their greatest.
-/
module

public import proofs.«01_k».proof.Proof.Running
public import proofs.«01_k».proof.Proof.Gen.ReferenceIdeal.Run

@[expose] public section

set_option maxRecDepth 16384

noncomputable section

namespace Cert.ReferenceIdeal.Nearest

open Cert.ReferenceIdeal Cert.ReferenceIdeal.Gen Cert.ReferenceIdeal.Facts Cert.Nearest
open Idealize.ShloMosaic Idealize.ShloMosaic.TcCoe Idealize.SL.Sem

/-- The negated clamped squared distances, a row for each query. -/
def negated (q : FVec Ideal S784x64 .f32) (k : FVec Ideal S100000x64 .f32) : FVec Ideal S784x100000 .f32 :=
  Host.negf (maximumf (subf (addf
    (broadcastInDim S784x100000 ![0, 1] bcast_S784x1_S784x100000_0_1 (broadcastInDim S784x1 ![0] bcast_S784_S784x1_0 (Host.reduceAdd (mulf q q) (constant S_ .f32 0x00000000#32) reducesTo_S784x64_S784_d1 h_S_)))
    (broadcastInDim S784x100000 ![0, 1] bcast_S1x100000_S784x100000_0_1 (broadcastInDim S1x100000 ![1] bcast_S100000_S1x100000_1 (Host.reduceAdd (mulf k k) (constant S_ .f32 0x00000000#32) reducesTo_S100000x64_S100000_d1 h_S_))))
    (mulf (broadcastInDim S784x100000 ![] bcast_S_S784x100000 (constant S_ .f32 0x40000000#32)) (Host.dotGeneral dot_S784x64_S64x100000_S784x100000_1_0_0_1_n_n none q (transpose S64x100000 [1, 0] k transposes_S100000x64_S64x100000_1_0))))
    (broadcastInDim S784x100000 ![] bcast_S_S784x100000 (constant S_ .f32 0x00000000#32)))

/-- The greatest entry of each row and where it stands. -/
def greatest (x : FVec Ideal S784x100000 .f32) : FVec Ideal S784x1 .f32 × IVec S784x1 32 :=
  Host.topK S784x1 1 (FloatOps.cmpfTotal .gt) x sliceFits_S784x100000_S784x1

/-- The scores from the greatest entries. -/
def scores (v : FVec Ideal S784x1 .f32) : FVec Ideal S784 .f32 :=
  Host.sqrt (addf (Host.negf (shapeCast S784 v shapeCasts_S784x1_S784)) (broadcastInDim S784 ![] bcast_S_S784 (constant S_ .f32 0x2B8CBCCC#32)))

/-- The greatest score. -/
def image (s : FVec Ideal S784 .f32) : FVec Ideal S_ .f32 :=
  Host.reduce FloatOps.maximumf s (constant S_ .f32 0xFF800000#32) reducesTo_S784_S_d0 h_S_

/-- The nearest keys' positions. -/
def places (p : IVec S784x1 32) : IVec S784 32 := shapeCast S784 p shapeCasts_S784x1_S784

/-- One negated clamped squared distance. -/
theorem negated_apply (q : FVec Ideal S784x64 .f32) (k : FVec Ideal S100000x64 .f32) (r : Fin 784) (j : Fin 100000) :
    negated q k (ix2 r j)
      = -max (∑ x : Fin 64, q (ix2 r x) * q (ix2 r x) + ∑ x : Fin 64, k (ix2 j x) * k (ix2 j x)
          - ((2 : ℝ) : EReal) * ∑ x : Fin 64, q (ix2 r x) * k (ix2 j x)) 0 := by
  rw [← pattern_two]
  unfold negated
  pointwise

/-- One negated clamped squared distance of finite arrays: the clamp does nothing. -/
theorem negated_eq {q : FVec Ideal S784x64 .f32} {k : FVec Ideal S100000x64 .f32} {Q : Fin 784 → Fin 64 → ℝ} {K : Fin 100000 → Fin 64 → ℝ}
    (hq : ∀ r x, q (ix2 r x) = ((Q r x : ℝ) : EReal)) (hk : ∀ j x, k (ix2 j x) = ((K j x : ℝ) : EReal)) (r : Fin 784) (j : Fin 100000) :
    negated q k (ix2 r j) = ((-distance (Q r) (K j) : ℝ) : EReal) := by
  rw [negated_apply]
  simp only [hq, hk]
  rw [expanded_right, max_eq_left (EReal.coe_nonneg.mpr (distance_nonneg _ _)), EReal.coe_neg]

/-- The greatest entry of a row of negated reals, and where it stands: the first least of the reals. -/
theorem greatest_apply {x : FVec Ideal S784x100000 .f32} {r : Fin 784} {d : Fin 100000 → ℝ}
    (hx : ∀ j, x (ix2 r j) = ((-d j : ℝ) : EReal)) :
    ∃ j, FirstLeast d 100000 j ∧ (greatest x).1 (ix2 r (0 : Fin 1)) = ((-d j : ℝ) : EReal)
      ∧ (greatest x).2 (ix2 r (0 : Fin 1)) = BitVec.ofNat 32 j.val := by
  have halong : ∀ j : Fin 100000, (ix2 r (0 : Fin 100000)).along (s := S784x100000) 1 j = ix2 r j := fun j => by
    funext a
    match a with
    | ⟨0, _⟩ => rfl
    | ⟨1, _⟩ => rfl
  have hword : ∀ j : Fin 100000, BitVec.ofNat 32 j.val = BitVec.ofNat 32 (((ix2 r (0 : Fin 100000)).along (s := S784x100000) 1 j) 1).val :=
    fun j => by rw [halong]; rfl
  refine ⟨sortedFrom (fun a b => FloatOps.cmpfTotal (F := Ideal) (φ := .f32) .gt
    (x ((ix2 r (0 : Fin 100000)).along (s := S784x100000) 1 a)) (x ((ix2 r (0 : Fin 100000)).along (s := S784x100000) 1 b)) == 1#1) (0 : Fin 100000), ?_, ?_, ?_⟩
  · refine firstLeast_sortedFrom _ d (fun a b => ?_) _ rfl
    rw [halong, halong, hx, hx]
    show (BitVec.ofBool (decide (((-d b : ℝ) : EReal) < ((-d a : ℝ) : EReal))) == 1#1) = true ↔ _
    have hiff : ((-d b : ℝ) : EReal) < ((-d a : ℝ) : EReal) ↔ d a < d b := EReal.coe_lt_coe_iff.trans neg_lt_neg_iff
    by_cases h : d a < d b
    · rw [decide_eq_true (hiff.mpr h)]
      exact iff_of_true rfl h
    · rw [decide_eq_false (mt hiff.mp h)]
      exact iff_of_false (by decide) h
  · rw [← hx, ← halong]
    unfold greatest Host.topK
    pointwise
    rfl
  · refine Eq.trans ?_ (hword _).symm
    unfold greatest Host.topK
    pointwise
    rfl

/-- One score. -/
theorem scores_apply (v : FVec Ideal S784x1 .f32) (r : Fin 784) :
    scores v (ix1 r) = Ideal.sqrt (-v (ix2 r (0 : Fin 1)) + Ideal.ofBits .f32 0x2B8CBCCC#32) := by
  unfold scores
  pointwise

/-- The greatest score. -/
theorem image_apply (s : FVec Ideal S784 .f32) (j : S_.Idx) :
    image s j = Finset.univ.fold max (Ideal.ofBits .f32 0xFF800000#32) fun r : Fin 784 => s (ix1 r) := by
  unfold image
  pointwise

/-- One position. -/
theorem places_apply (p : IVec S784x1 32) (r : Fin 784) : places p (ix1 r) = p (ix2 r (0 : Fin 1)) := by
  unfold places
  pointwise

variable (m : (ℓ : Loc nD τ sig) → Buf (Elt Ideal) ℓ) (ρ : Dev nD → PrngReg)

/-- The run of the reference at those names. -/
theorem run : θ_run defs (onTc (τ := τ) (main (F := Ideal))) ⟨m, fun _ => 0, ρ⟩ fun r => ∀ c : Dev nD,
    r.2.mem ((c.tc : Thread nD τ).loc main_v21)
        = scores (greatest (negated (m ((c.tc : Thread nD τ).loc main_arg0)) (m ((c.tc : Thread nD τ).loc main_arg1)))).1
    ∧ r.2.mem ((c.tc : Thread nD τ).loc main_v22)
        = image (scores (greatest (negated (m ((c.tc : Thread nD τ).loc main_arg0)) (m ((c.tc : Thread nD τ).loc main_arg1)))).1)
    ∧ r.2.mem ((c.tc : Thread nD τ).loc main_v23)
        = places (greatest (negated (m ((c.tc : Thread nD τ).loc main_arg0)) (m ((c.tc : Thread nD τ).loc main_arg1)))).2
    ∧ r.2.mem ((c.tc : Thread nD τ).loc main_arg0) = m ((c.tc : Thread nD τ).loc main_arg0)
    ∧ r.2.mem ((c.tc : Thread nD τ).loc main_arg1) = m ((c.tc : Thread nD τ).loc main_arg1) :=
  Value.run m ρ

end Cert.ReferenceIdeal.Nearest

end
-- ==== Proof.Finite.lean ====
/-
  The precondition: both arguments hold reals only.
-/
module

public import proofs.«01_k».proof.Proof.Reference
public import proofs.«01_k».proof.Pre_finite

@[expose] public section

noncomputable section

namespace Cert.Pre_finite

open Idealize.ShloMosaic

/-- The precondition's broadcasts are of a scalar. -/
theorem facts : Facts := ⟨by decide, by decide⟩

/-- An extended real whose absolute value is below plus infinity is a real. -/
theorem real_of_abs {x : EReal} (h : max x (-x) < ⊤) : x = ((x.toReal : ℝ) : EReal) := by
  refine (EReal.coe_toReal ?_ ?_).symm
  · rintro rfl
    simp at h
  · rintro rfl
    simp at h

/-- The words of a comparison that are one say that it holds. -/
theorem holds_of_word {p : Prop} [Decidable p] (h : BitVec.ofBool (decide p) = 1#1) : p := by
  by_contra hp
  rw [decide_eq_false hp] at h
  exact absurd h (by decide)

/-- Where the precondition holds, every entry of both arguments is a real. -/
theorem reals (hF : Facts) {q : FVec Ideal S784x64 .f32} {k : FVec Ideal S100000x64 .f32}
    (h : (fn (F := Ideal) q k).1 = (fun _ => 1#1) ∧ (fn (F := Ideal) q k).2 = (fun _ => 1#1)) :
    (∀ i, q i = (((q i : EReal).toReal : ℝ) : EReal)) ∧ (∀ i, k i = (((k i : EReal).toReal : ℝ) : EReal)) := by
  constructor
  · intro i
    have hi : BitVec.ofBool (decide (max (q i : EReal) (-(q i : EReal)) < Ideal.ofBits .f32 0x7F800000#32)) = 1#1 := congrFun h.1 i
    rw [Cert.Nearest.pattern_top] at hi
    exact real_of_abs (holds_of_word hi)
  · intro i
    have hi : BitVec.ofBool (decide (max (k i : EReal) (-(k i : EReal)) < Ideal.ofBits .f32 0x7F800000#32)) = 1#1 := congrFun h.2 i
    rw [Cert.Nearest.pattern_top] at hi
    exact real_of_abs (holds_of_word hi)

end Cert.Pre_finite

end
-- ==== Proof.Equation.lean ====
/-
  The equation: with finite arguments the kernel's three results are the reference's, element by element.
-/
module

public import proofs.«01_k».proof.Proof.Finite

@[expose] public section

set_option maxRecDepth 16384

noncomputable section

namespace Cert.Nearest

open Idealize.ShloMosaic Idealize.ShloMosaic.TcCoe Idealize.SL.Sem
open Cert.KernelIdeal Cert.KernelIdeal.Gen Cert.KernelIdeal.Nearest

variable {m : (ℓ : Loc nD τ sig) → Buf (Elt Ideal) ℓ} {c : Dev nD} {Q : Fin 784 → Fin 64 → ℝ} {K : Fin 100000 → Fin 64 → ℝ}

/-- A running minimum and position over all keys are the reference's greatest negated distance, negated back, and its position. -/
theorem nearest_eq (hq : HoldsQueries m c Q) (hk : HoldsKeys m c K) {r : Fin 784} {v : EReal} {p : BitVec 32} (h : Holds Q K 100000 r v p) :
    max v 0 = -(ReferenceIdeal.Nearest.greatest (ReferenceIdeal.Nearest.negated (m (c.tc.loc main_arg0)) (m (c.tc.loc main_arg1)))).1 (ix2 r (0 : Fin 1))
    ∧ p = (ReferenceIdeal.Nearest.greatest (ReferenceIdeal.Nearest.negated (m (c.tc.loc main_arg0)) (m (c.tc.loc main_arg1)))).2 (ix2 r (0 : Fin 1)) := by
  obtain ⟨j, hj, rfl, rfl⟩ := h
  obtain ⟨j', hj', hv, hp⟩ := ReferenceIdeal.Nearest.greatest_apply (r := r) (ReferenceIdeal.Nearest.negated_eq hq hk r)
  obtain rfl := hj.unique hj'
  rw [hv, hp]
  exact ⟨by rw [max_eq_left (EReal.coe_nonneg.mpr (distance_nonneg _ _)), EReal.coe_neg, neg_neg], rfl⟩

/-- The three results. -/
theorem results_eq (hq : HoldsQueries m c Q) (hk : HoldsKeys m c K) :
    shapeCast S784 (final m c).1 shapeCasts_S784x1_S784
        = ReferenceIdeal.Nearest.scores (ReferenceIdeal.Nearest.greatest (ReferenceIdeal.Nearest.negated (m (c.tc.loc main_arg0)) (m (c.tc.loc main_arg1)))).1
    ∧ shapeCast S_ (final m c).2.1 shapeCasts_S1x1x1_S_
        = ReferenceIdeal.Nearest.image (ReferenceIdeal.Nearest.scores (ReferenceIdeal.Nearest.greatest (ReferenceIdeal.Nearest.negated (m (c.tc.loc main_arg0)) (m (c.tc.loc main_arg1)))).1)
    ∧ shapeCast S784 (final m c).2.2.1 shapeCasts_S784x1_S784
        = ReferenceIdeal.Nearest.places (ReferenceIdeal.Nearest.greatest (ReferenceIdeal.Nearest.negated (m (c.tc.loc main_arg0)) (m (c.tc.loc main_arg1)))).2 := by
  obtain ⟨v, h1, h2, hv⟩ := last hq hk
  have hscore : ∀ r : Fin 784, k0_pay1 v (ix2 r (0 : Fin 1))
      = ReferenceIdeal.Nearest.scores (ReferenceIdeal.Nearest.greatest (ReferenceIdeal.Nearest.negated (m (c.tc.loc main_arg0)) (m (c.tc.loc main_arg1)))).1 (ix1 r) := fun r => by
    rw [KernelIdeal.Nearest.scores_apply, (nearest_eq hq hk (hv r)).1, ReferenceIdeal.Nearest.scores_apply]
  refine ⟨?_, ?_, ?_⟩
  · funext i
    obtain ⟨r, rfl⟩ : ∃ r : Fin 784, i = ix1 r := ⟨i 0, (ix1_eta i).symm⟩
    rw [h1, ← hscore]
    pointwise
  · funext i
    rw [h2, ReferenceIdeal.Nearest.image_apply]
    show k0_pay2 v = _
    rw [KernelIdeal.Nearest.greatest_apply]
    rw [show (Finset.univ : Finset (Fin 784 × Fin 1)) = Finset.univ.map (Equiv.prodUnique (Fin 784) (Fin 1)).symm.toEmbedding from (Finset.map_univ_equiv _).symm,
      Finset.fold_map]
    exact Finset.fold_congr fun r _ => hscore r
  · funext i
    obtain ⟨r, rfl⟩ : ∃ r : Fin 784, i = ix1 r := ⟨i 0, (ix1_eta i).symm⟩
    rw [ReferenceIdeal.Nearest.places_apply, ← (nearest_eq hq hk (hv _)).2]
    pointwise

end Cert.Nearest

end
-- ==== Proof.lean ====
/-
  The proof of `Cert.Claim`: the kernel, its ideal reading and the reference run and leave their arguments as they were, and with finite arguments the
  kernel's three results are the reference's.
-/
module

public import proofs.«01_k».proof.Proof.Equation
public import proofs.«01_k».proof.Defs
public import proofs.«01_k».proof.Proof.Gen.Kernel.Frame
public import proofs.«01_k».proof.Proof.Gen.KernelIdeal.Frame
public import Idealize.ShloMosaic.Lib.Quiescent

@[expose] public section

noncomputable section

namespace Cert.Proof

open Idealize.ShloMosaic Idealize.SL.Sem

/-- The reference runs, leaves its arguments as they were and every counter at zero. -/
theorem reference_frame : quiescent_ReferenceIdeal := by
  intro m g _
  refine (θ_run _ _ _).mono (fun r h => ⟨fun c => ?_, sem_eq_zero_of_no_sems (by decide) r.2⟩) (ReferenceIdeal.Nearest.run m g)
  obtain ⟨-, -, -, hq, hk⟩ := h c
  exact ⟨hq, hk⟩

/-- With finite arguments the kernel's results are the reference's. -/
theorem results_agree : algebraic_KernelIdeal_ReferenceIdeal_pre_finite (hPre_finite := Cert.Pre_finite.facts) := by
  intro m g m' g' hpre hagree
  refine ⟨fun c => ReferenceIdeal.Nearest.scores (ReferenceIdeal.Nearest.greatest (ReferenceIdeal.Nearest.negated
        (m (c.tc.loc Cert.KernelIdeal.main_arg0)) (m (c.tc.loc Cert.KernelIdeal.main_arg1)))).1,
    fun c => ReferenceIdeal.Nearest.image (ReferenceIdeal.Nearest.scores (ReferenceIdeal.Nearest.greatest (ReferenceIdeal.Nearest.negated
        (m (c.tc.loc Cert.KernelIdeal.main_arg0)) (m (c.tc.loc Cert.KernelIdeal.main_arg1)))).1),
    fun c => ReferenceIdeal.Nearest.places (ReferenceIdeal.Nearest.greatest (ReferenceIdeal.Nearest.negated
        (m (c.tc.loc Cert.KernelIdeal.main_arg0)) (m (c.tc.loc Cert.KernelIdeal.main_arg1)))).2, ?_, ?_⟩
  · refine (θ_run _ _ _).mono (fun r h c => ?_) (KernelIdeal.Nearest.run m g)
    obtain ⟨h1, h2, h3, hq, hk⟩ := h c
    obtain ⟨hfq, hfk⟩ := Cert.Pre_finite.reals Cert.Pre_finite.facts (hpre c)
    obtain ⟨e1, e2, e3⟩ := Cert.Nearest.results_eq (m := m) (c := c)
      (Q := fun r x => EReal.toReal (m (c.tc.loc Cert.KernelIdeal.main_arg0) (ix2 r x)))
      (K := fun j x => EReal.toReal (m (c.tc.loc Cert.KernelIdeal.main_arg1) (ix2 j x)))
      (fun r x => hfq (ix2 r x)) (fun j x => hfk (ix2 j x))
    exact ⟨h1.trans e1, h2.trans e2, h3.trans e3, hq, hk⟩
  · refine (θ_run _ _ _).mono (fun r h c => ?_) (ReferenceIdeal.Nearest.run m' g')
    obtain ⟨h1, h2, h3, hq, hk⟩ := h c
    rw [(hagree c).1, (hagree c).2] at h1 h2 h3
    exact ⟨h1, h2, h3, hq, hk⟩

/-- The claims together. -/
theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    results_agree⟩

end Cert.Proof

end
